-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v69) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S64x160000 : Shape := ⟨2, ![64, 160000]⟩
abbrev S_ : Shape := ⟨0, ![]⟩

class Facts : Prop where
  bcast_S_S64x160000 : S_.BroadcastsInDim S64x160000 (![] : Fin 0 → Fin S64x160000.rank)

variable [Facts]

def fn {F : FTy → Type} [FloatOps F] (main_arg0 : FVec F S64x160000 .f32) : IVec S64x160000 1 :=
  let main_v0 : FVec F S64x160000 .f32 := Host.absf main_arg0
  let main_cst : FVec F S_ .f32 := constant S_ .f32 0x7F800000#32
  let main_v1 : FVec F S64x160000 .f32 := broadcastInDim S64x160000 ![] bcast_S_S64x160000 main_cst
  let main_v2 : IVec S64x160000 1 := cmpf .olt main_v0 main_v1
  main_v2
-- ==== Kernel.lean ====
abbrev S64x160000 : Shape := ⟨2, ![64, 160000]⟩
abbrev S400 : Shape := ⟨1, ![400]⟩
abbrev S40x40 : Shape := ⟨2, ![40, 40]⟩
abbrev S256x40 : Shape := ⟨2, ![256, 40]⟩
abbrev S64x1000x160 : Shape := ⟨3, ![64, 1000, 160]⟩
abbrev S256 : Shape := ⟨1, ![256]⟩
abbrev S_ : Shape := ⟨0, ![]⟩
abbrev S400x1 : Shape := ⟨2, ![400, 1]⟩
abbrev S1x256 : Shape := ⟨2, ![1, 256]⟩
abbrev S400x256 : Shape := ⟨2, ![400, 256]⟩
abbrev S400x512 : Shape := ⟨2, ![400, 512]⟩
abbrev S40x38 : Shape := ⟨2, ![40, 38]⟩
abbrev S40x13 : Shape := ⟨2, ![40, 13]⟩
abbrev S40x39 : Shape := ⟨2, ![40, 39]⟩
abbrev S64x998x39 : Shape := ⟨3, ![64, 998, 39]⟩
abbrev S1x1000x160 : Shape := ⟨3, ![1, 1000, 160]⟩
abbrev S1x998x39 : Shape := ⟨3, ![1, 998, 39]⟩
abbrev S1000x160 : Shape := ⟨2, ![1000, 160]⟩
abbrev S1x1 : Shape := ⟨2, ![1, 1]⟩
abbrev S999x1 : Shape := ⟨2, ![999, 1]⟩
abbrev S1000x1 : Shape := ⟨2, ![1000, 1]⟩
abbrev S1000x159 : Shape := ⟨2, ![1000, 159]⟩
abbrev S998x160 : Shape := ⟨2, ![998, 160]⟩
abbrev S160x512 : Shape := ⟨2, ![160, 512]⟩
abbrev S998x512 : Shape := ⟨2, ![998, 512]⟩
abbrev S998x80 : Shape := ⟨2, ![998, 80]⟩
abbrev S80x512 : Shape := ⟨2, ![80, 512]⟩
abbrev S998x256 : Shape := ⟨2, ![998, 256]⟩
abbrev S998x40 : Shape := ⟨2, ![998, 40]⟩
abbrev S998x39 : Shape := ⟨2, ![998, 39]⟩

abbrev nBuf : Space → Nat
  | .hbm => 59
  | .vmem => 7
  | .smem => 0
  | _ => 0

abbrev bufTy : (tb : Table) → Fin (tcTables nBuf tb) → BufTy
  | .hbm, ⟨0, _⟩ => ⟨S64x160000, .f32⟩
  | .hbm, ⟨1, _⟩ => ⟨S400, .f32⟩
  | .hbm, ⟨2, _⟩ => ⟨S40x40, .f32⟩
  | .hbm, ⟨3, _⟩ => ⟨S256x40, .f32⟩
  | .hbm, ⟨4, _⟩ => ⟨S64x1000x160, .f32⟩
  | .hbm, ⟨5, _⟩ => ⟨S256, .i32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S400, .i32⟩
  | .hbm, ⟨11, _⟩ => ⟨S400x1, .i32⟩
  | .hbm, ⟨12, _⟩ => ⟨S1x256, .i32⟩
  | .hbm, ⟨13, _⟩ => ⟨S400x256, .i32⟩
  | .hbm, ⟨14, _⟩ => ⟨S400x256, .i32⟩
  | .hbm, ⟨15, _⟩ => ⟨S400x256, .i32⟩
  | .hbm, ⟨16, _⟩ => ⟨S400x256, .f32⟩
  | .hbm, ⟨17, _⟩ => ⟨S400x256, .f32⟩
  | .hbm, ⟨18, _⟩ => ⟨S400x256, .f32⟩
  | .hbm, ⟨19, _⟩ => ⟨S_, .f32⟩
  | .hbm, ⟨20, _⟩ => ⟨S400x256, .f32⟩
  | .hbm, ⟨21, _⟩ => ⟨S400x256, .f32⟩
  | .hbm, ⟨22, _⟩ => ⟨S400x1, .f32⟩
  | .hbm, ⟨23, _⟩ => ⟨S400x256, .f32⟩
  | .hbm, ⟨24, _⟩ => ⟨S400x256, .f32⟩
  | .hbm, ⟨25, _⟩ => ⟨S400x256, .f32⟩
  | .hbm, ⟨26, _⟩ => ⟨S400x1, .f32⟩
  | .hbm, ⟨27, _⟩ => ⟨S400x256, .f32⟩
  | .hbm, ⟨28, _⟩ => ⟨S400x256, .f32⟩
  | .hbm, ⟨29, _⟩ => ⟨S400x256, .f32⟩
  | .hbm, ⟨30, _⟩ => ⟨S400x256, .f32⟩
  | .hbm, ⟨31, _⟩ => ⟨S400x512, .f32⟩
  | .hbm, ⟨32, _⟩ => ⟨S40x38, .f32⟩
  | .hbm, ⟨33, _⟩ => ⟨S_, .f32⟩
  | .hbm, ⟨34, _⟩ => ⟨S40x38, .f32⟩
  | .hbm, ⟨35, _⟩ => ⟨S40x38, .f32⟩
  | .hbm, ⟨36, _⟩ => ⟨S40x38, .f32⟩
  | .hbm, ⟨37, _⟩ => ⟨S_, .f32⟩
  | .hbm, ⟨38, _⟩ => ⟨S40x38, .f32⟩
  | .hbm, ⟨39, _⟩ => ⟨S40x38, .f32⟩
  | .hbm, ⟨40, _⟩ => ⟨S40x38, .f32⟩
  | .hbm, ⟨41, _⟩ => ⟨S_, .f32⟩
  | .hbm, ⟨42, _⟩ => ⟨S40x40, .f32⟩
  | .hbm, ⟨43, _⟩ => ⟨S40x38, .f32⟩
  | .hbm, ⟨44, _⟩ => ⟨S_, .f32⟩
  | .hbm, ⟨45, _⟩ => ⟨S40x38, .f32⟩
  | .hbm, ⟨46, _⟩ => ⟨S40x38, .f32⟩
  | .hbm, ⟨47, _⟩ => ⟨S40x38, .f32⟩
  | .hbm, ⟨48, _⟩ => ⟨S_, .f32⟩
  | .hbm, ⟨49, _⟩ => ⟨S40x38, .f32⟩
  | .hbm, ⟨50, _⟩ => ⟨S40x38, .f32⟩
  | .hbm, ⟨51, _⟩ => ⟨S40x38, .f32⟩
  | .hbm, ⟨52, _⟩ => ⟨S_, .f32⟩
  | .hbm, ⟨53, _⟩ => ⟨S40x40, .f32⟩
  | .hbm, ⟨54, _⟩ => ⟨S40x13, .f32⟩
  | .hbm, ⟨55, _⟩ => ⟨S40x13, .f32⟩
  | .hbm, ⟨56, _⟩ => ⟨S40x13, .f32⟩
  | .hbm, ⟨57, _⟩ => ⟨S40x39, .f32⟩
  | .hbm, ⟨58, _⟩ => ⟨S64x998x39, .f32⟩
  | .local _ .vmem, ⟨0, _⟩ => ⟨S1x1000x160, .f32⟩
  | .local _ .vmem, ⟨1, _⟩ => ⟨S1x1000x160, .f32⟩
  | .local _ .vmem, ⟨2, _⟩ => ⟨S400x512, .f32⟩
  | .local _ .vmem, ⟨3, _⟩ => ⟨S256x40, .f32⟩
  | .local _ .vmem, ⟨4, _⟩ => ⟨S40x39, .f32⟩
  | .local _ .vmem, ⟨5, _⟩ => ⟨S1x998x39, .f32⟩
  | .local _ .vmem, ⟨6, _⟩ => ⟨S1x998x39, .f32⟩
  | _, _ => ⟨S64x160000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_cst_2 : Ref sig .tc := ⟨.hbm, 6, rfl⟩
abbrev main_v2 : Ref sig .tc := ⟨.hbm, 7, rfl⟩
abbrev main_cst_3 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_4 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_cst_5 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_cst_6 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_cst_7 : Ref sig .tc := ⟨.hbm, 41, rfl⟩
abbrev main_v32 : Ref sig .tc := ⟨.hbm, 42, rfl⟩
abbrev main_v33 : Ref sig .tc := ⟨.hbm, 43, rfl⟩
abbrev main_cst_8 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_cst_9 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_cst_10 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1000x160 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S400x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x40 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S40x39 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x998x39 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S64x160000 : Shape := ⟨2, ![64, 160000]⟩
abbrev S400 : Shape := ⟨1, ![400]⟩
abbrev S257x40 : Shape := ⟨2, ![257, 40]⟩
abbrev S40x40 : Shape := ⟨2, ![40, 40]⟩
abbrev S64x1 : Shape := ⟨2, ![64, 1]⟩
abbrev S64x159999 : Shape := ⟨2, ![64, 159999]⟩
abbrev S_ : Shape := ⟨0, ![]⟩
abbrev S998 : Shape := ⟨1, ![998]⟩
abbrev S998x1 : Shape := ⟨2, ![998, 1]⟩
abbrev S1x400 : Shape := ⟨2, ![1, 400]⟩
abbrev S998x400 : Shape := ⟨2, ![998, 400]⟩
abbrev S998x400x1 : Shape := ⟨3, ![998, 400, 1]⟩
abbrev S64x998x400 : Shape := ⟨3, ![64, 998, 400]⟩
abbrev S1x1x400 : Shape := ⟨3, ![1, 1, 400]⟩
abbrev S400x1 : Shape := ⟨2, ![400, 1]⟩
abbrev S257 : Shape := ⟨1, ![257]⟩
abbrev S1x257 : Shape := ⟨2, ![1, 257]⟩
abbrev S400x257 : Shape := ⟨2, ![400, 257]⟩
abbrev S64x998x257 : Shape := ⟨3, ![64, 998, 257]⟩
abbrev S64x998x40 : Shape := ⟨3, ![64, 998, 40]⟩
abbrev S64x998x38 : Shape := ⟨3, ![64, 998, 38]⟩
abbrev S64x998x13 : Shape := ⟨3, ![64, 998, 13]⟩
abbrev S64x998x39 : Shape := ⟨3, ![64, 998, 39]⟩

abbrev nBuf : Space → Nat
  | .hbm => 86
  | .vmem => 0
  | .smem => 0
  | _ => 0

abbrev bufTy : (tb : Table) → Fin (tcTables nBuf tb) → BufTy
  | .hbm, ⟨0, _⟩ => ⟨S64x160000, .f32⟩
  | .hbm, ⟨1, _⟩ => ⟨S400, .f32⟩
  | .hbm, ⟨2, _⟩ => ⟨S257x40, .f32⟩
  | .hbm, ⟨3, _⟩ => ⟨S40x40, .f32⟩
  | .hbm, ⟨4, _⟩ => ⟨S64x1, .f32⟩
  | .hbm, ⟨5, _⟩ => ⟨S64x159999, .f32⟩
  | .hbm, ⟨6, _⟩ => ⟨S64x159999, .f32⟩
  | .hbm, ⟨7, _⟩ => ⟨S_, .f32⟩
  | .hbm, ⟨8, _⟩ => ⟨S64x159999, .f32⟩
  | .hbm, ⟨9, _⟩ => ⟨S64x159999, .f32⟩
  | .hbm, ⟨10, _⟩ => ⟨S64x159999, .f32⟩
  | .hbm, ⟨11, _⟩ => ⟨S64x160000, .f32⟩
  | .hbm, ⟨12, _⟩ => ⟨S998, .i32⟩
  | .hbm, ⟨13, _⟩ => ⟨S998x1, .i32⟩
  | .hbm, ⟨14, _⟩ => ⟨S_, .i32⟩
  | .hbm, ⟨15, _⟩ => ⟨S998x1, .i32⟩
  | .hbm, ⟨16, _⟩ => ⟨S998x1, .i32⟩
  | .hbm, ⟨17, _⟩ => ⟨S400, .i32⟩
  | .hbm, ⟨18, _⟩ => ⟨S1x400, .i32⟩
  | .hbm, ⟨19, _⟩ => ⟨S998x400, .i32⟩
  | .hbm, ⟨20, _⟩ => ⟨S998x400, .i32⟩
  | .hbm, ⟨21, _⟩ => ⟨S998x400, .i32⟩
  | .hbm, ⟨22, _⟩ => ⟨S_, .i32⟩
  | .hbm, ⟨23, _⟩ => ⟨S998x400, .i32⟩
  | .hbm, ⟨24, _⟩ => ⟨S998x400, .i1⟩
  | .hbm, ⟨25, _⟩ => ⟨S_, .i32⟩
  | .hbm, ⟨26, _⟩ => ⟨S998x400, .i32⟩
  | .hbm, ⟨27, _⟩ => ⟨S998x400, .i32⟩
  | .hbm, ⟨28, _⟩ => ⟨S998x400, .i32⟩
  | .hbm, ⟨29, _⟩ => ⟨S998x400x1, .i32⟩
  | .hbm, ⟨30, _⟩ => ⟨S64x998x400, .f32⟩
  | .hbm, ⟨31, _⟩ => ⟨S1x1x400, .f32⟩
  | .hbm, ⟨32, _⟩ => ⟨S64x998x400, .f32⟩
  | .hbm, ⟨33, _⟩ => ⟨S64x998x400, .f32⟩
  | .hbm, ⟨34, _⟩ => ⟨S400, .i32⟩
  | .hbm, ⟨35, _⟩ => ⟨S400x1, .i32⟩
  | .hbm, ⟨36, _⟩ => ⟨S257, .i32⟩
  | .hbm, ⟨37, _⟩ => ⟨S1x257, .i32⟩
  | .hbm, ⟨38, _⟩ => ⟨S400x257, .i32⟩
  | .hbm, ⟨39, _⟩ => ⟨S400x257, .i32⟩
  | .hbm, ⟨40, _⟩ => ⟨S400x257, .i32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S400x257, .f32⟩
  | .hbm, ⟨46, _⟩ => ⟨S400x257, .f32⟩
  | .hbm, ⟨47, _⟩ => ⟨S400x257, .f32⟩
  | .hbm, ⟨48, _⟩ => ⟨S_, .f32⟩
  | .hbm, ⟨49, _⟩ => ⟨S400x257, .f32⟩
  | .hbm, ⟨50, _⟩ => ⟨S400x257, .f32⟩
  | .hbm, ⟨51, _⟩ => ⟨S400x257, .f32⟩
  | .hbm, ⟨52, _⟩ => ⟨S64x998x257, .f32⟩
  | .hbm, ⟨53, _⟩ => ⟨S400x257, .f32⟩
  | .hbm, ⟨54, _⟩ => ⟨S64x998x257, .f32⟩
  | .hbm, ⟨55, _⟩ => ⟨S64x998x257, .f32⟩
  | .hbm, ⟨56, _⟩ => ⟨S64x998x257, .f32⟩
  | .hbm, ⟨57, _⟩ => ⟨S64x998x257, .f32⟩
  | .hbm, ⟨58, _⟩ => ⟨S64x998x257, .f32⟩
  | .hbm, ⟨59, _⟩ => ⟨S64x998x257, .f32⟩
  | .hbm, ⟨60, _⟩ => ⟨S64x998x40, .f32⟩
  | .hbm, ⟨61, _⟩ => ⟨S_, .f32⟩
  | .hbm, ⟨62, _⟩ => ⟨S64x998x40, .f32⟩
  | .hbm, ⟨63, _⟩ => ⟨S64x998x40, .f32⟩
  | .hbm, ⟨64, _⟩ => ⟨S64x998x40, .f32⟩
  | .hbm, ⟨65, _⟩ => ⟨S64x998x40, .f32⟩
  | .hbm, ⟨66, _⟩ => ⟨S64x998x38, .f32⟩
  | .hbm, ⟨67, _⟩ => ⟨S64x998x38, .f32⟩
  | .hbm, ⟨68, _⟩ => ⟨S64x998x38, .f32⟩
  | .hbm, ⟨69, _⟩ => ⟨S_, .f32⟩
  | .hbm, ⟨70, _⟩ => ⟨S64x998x38, .f32⟩
  | .hbm, ⟨71, _⟩ => ⟨S64x998x38, .f32⟩
  | .hbm, ⟨72, _⟩ => ⟨S_, .f32⟩
  | .hbm, ⟨73, _⟩ => ⟨S64x998x40, .f32⟩
  | .hbm, ⟨74, _⟩ => ⟨S64x998x38, .f32⟩
  | .hbm, ⟨75, _⟩ => ⟨S64x998x38, .f32⟩
  | .hbm, ⟨76, _⟩ => ⟨S64x998x38, .f32⟩
  | .hbm, ⟨77, _⟩ => ⟨S_, .f32⟩
  | .hbm, ⟨78, _⟩ => ⟨S64x998x38, .f32⟩
  | .hbm, ⟨79, _⟩ => ⟨S64x998x38, .f32⟩
  | .hbm, ⟨80, _⟩ => ⟨S_, .f32⟩
  | .hbm, ⟨81, _⟩ => ⟨S64x998x40, .f32⟩
  | .hbm, ⟨82, _⟩ => ⟨S64x998x13, .f32⟩
  | .hbm, ⟨83, _⟩ => ⟨S64x998x13, .f32⟩
  | .hbm, ⟨84, _⟩ => ⟨S64x998x13, .f32⟩
  | .hbm, ⟨85, _⟩ => ⟨S64x998x39, .f32⟩
  | _, _ => ⟨S64x160000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_cst_1 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst_2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_c : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_c_3 : Ref sig .tc := ⟨.hbm, 22, rfl⟩
abbrev main_v16 : Ref sig .tc := ⟨.hbm, 23, rfl⟩
abbrev main_v17 : Ref sig .tc := ⟨.hbm, 24, rfl⟩
abbrev main_c_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_cst_5 : Ref sig .tc := ⟨.hbm, 41, rfl⟩
abbrev main_v33 : Ref sig .tc := ⟨.hbm, 42, rfl⟩
abbrev main_cst_6 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_cst_7 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_cst_8 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_cst_9 : Ref sig .tc := ⟨.hbm, 69, rfl⟩
abbrev main_v57 : Ref sig .tc := ⟨.hbm, 70, rfl⟩
abbrev main_v58 : Ref sig .tc := ⟨.hbm, 71, rfl⟩
abbrev main_cst_10 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_cst_11 : Ref sig .tc := ⟨.hbm, 77, rfl⟩
abbrev main_v63 : Ref sig .tc := ⟨.hbm, 78, rfl⟩
abbrev main_v64 : Ref sig .tc := ⟨.hbm, 79, rfl⟩
abbrev main_cst_12 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩

abbrev nD : Nat := 1
abbrev τ : Topo := Topo.v7x

variable {F : FTy → Type} [FloatOps F]
-- ==== Proof.Words.lean ====
/- Binary32 words as real numbers. -/
module

public import Idealize.ShloMosaic.PureOps.Ideal.Laws

@[expose] public section

noncomputable section

namespace Cert.Proof

open Idealize.ShloMosaic

/-- The real number that a binary32 word denotes (0 where the word denotes no real number). -/
def val (b : BitVec 32) : ℝ := (Ideal.ofBits .f32 b).toReal

/-- The fields of a binary32 word, as numbers: its exponent. -/
theorem expo_eq (b : BitVec 32) : (b.extractLsb' 23 8).toNat = b.toNat % 0x80000000 / 0x800000 := by
  rw [BitVec.extractLsb'_toNat, Nat.shiftRight_eq_div_pow]
  omega

/-- A word whose exponent is not all ones denotes the real number `val b`. -/
theorem ofBits_val {b : BitVec 32} (h : b.toNat % 0x80000000 < 0x7F800000) : Ideal.ofBits .f32 b = (val b : EReal) := by
  have he : (b.extractLsb' 23 8).toNat ≠ 2 ^ 8 - 1 := by rw [expo_eq]; omega
  unfold val
  simp only [Ideal.ofBits, Ideal.ieee, if_neg he]
  split_ifs <;> simp only [EReal.toReal_coe]

/-- A word below the pattern of `+∞` denotes a number that is not negative. -/
theorem val_nonneg {b : BitVec 32} (h : b.toNat < 0x7F800000) : 0 ≤ val b := by
  have he : (b.extractLsb' 23 8).toNat ≠ 2 ^ 8 - 1 := by rw [expo_eq]; omega
  have hs : (b.extractLsb' (8 + 23) 1 == 1#1) = false := by
    rw [beq_eq_false_iff_ne]
    intro hc
    have := congrArg BitVec.toNat hc
    rw [BitVec.extractLsb'_toNat, Nat.shiftRight_eq_div_pow] at this
    norm_num at this
    omega
  unfold val
  simp only [Ideal.ofBits, Ideal.ieee, if_neg he, hs]
  split_ifs <;> simp only [EReal.toReal_coe] <;> first | contradiction | positivity

/-- A word between the smallest normal number and `+∞` denotes a positive number. -/
theorem val_pos {b : BitVec 32} (h₀ : 0x800000 ≤ b.toNat) (h : b.toNat < 0x7F800000) : 0 < val b := by
  have he : (b.extractLsb' 23 8).toNat ≠ 2 ^ 8 - 1 := by rw [expo_eq]; omega
  have he₀ : (b.extractLsb' 23 8).toNat ≠ 0 := by rw [expo_eq]; omega
  have hs : (b.extractLsb' (8 + 23) 1 == 1#1) = false := by
    rw [beq_eq_false_iff_ne]
    intro hc
    have := congrArg BitVec.toNat hc
    rw [BitVec.extractLsb'_toNat, Nat.shiftRight_eq_div_pow] at this
    norm_num at this
    omega
  unfold val
  simp only [Ideal.ofBits, Ideal.ieee, if_neg he, if_neg he₀, hs]
  simp only [EReal.toReal_coe]
  norm_num
  positivity

/-- The word of zero denotes zero. -/
theorem val_zero : val 0#32 = 0 := by
  unfold val
  rw [show Ideal.ofBits .f32 0#32 = 0 from Ideal.ofBits_zero_f32, EReal.toReal_zero]

/-- The word of minus one denotes minus one. -/
theorem val_negOne : val 0xBF800000#32 = -1 := by
  unfold val
  simp [Ideal.ofBits, Ideal.ieee]
  rw [← EReal.coe_mul, EReal.toReal_coe]
  norm_num

end Cert.Proof

end
-- ==== Proof.Mfcc.lean ====
/- The cepstral coefficients of a real signal, over the real numbers: the common value of the two programs.
   `a` is the pre-emphasis factor, `w n` the window, `θ n k` the angle of sample `n` in bin `k`, `B k n` the
   weight of bin `k` in mel filter `n`, `ε` the number added before the logarithm, `C n q` the cosine basis and
   `h` the factor of the central difference. -/
module

public import Idealize.ShloMosaic.PureOps.Ideal

@[expose] public section

noncomputable section

namespace Cert.Proof

open scoped BigOperators

/-- The pre-emphasised signal: the first sample itself, then each sample less `a` times the one before it. -/
def emph (a : ℝ) (x : ℕ → ℝ) (i : ℕ) : ℝ := if i = 0 then x 0 else x i - a * x (i - 1)

/-- The product of frame `f`, which starts at sample `160 f`, with column `W` of a table of 400 rows. -/
def frameDot (y : ℕ → ℝ) (W : ℕ → ℝ) (f : ℕ) : ℝ := ∑ n ∈ Finset.range 400, y (160 * f + n) * W n

/-- The product with a frame in three pieces, of 160, 160 and 80 samples, is the product with the frame. -/
theorem frameDot_pieces (y W : ℕ → ℝ) (f : ℕ) :
    (∑ l ∈ Finset.range 160, y (160 * f + l) * W l) + (∑ l ∈ Finset.range 160, y (160 * (1 + f) + l) * W (160 + l))
      + (∑ l ∈ Finset.range 80, y (160 * (2 + f) + l) * W (320 + l)) = frameDot y W f := by
  unfold frameDot
  rw [show (400 : ℕ) = (160 + 160) + 80 from rfl, Finset.sum_range_add, Finset.sum_range_add]
  refine congrArg₂ (· + ·) (congrArg₂ (· + ·) rfl ?_) ?_ <;> refine Finset.sum_congr rfl fun l _ => ?_
  · rw [show 160 * (1 + f) + l = 160 * f + (160 + l) by omega]
  · rw [show 160 * (2 + f) + l = 160 * f + (320 + l) by omega]

/-- The product with the opposite column is the opposite product. -/
theorem frameDot_neg (y W : ℕ → ℝ) (f : ℕ) : frameDot y (fun n => -W n) f = -frameDot y W f := by
  unfold frameDot
  rw [← Finset.sum_neg_distrib]
  exact Finset.sum_congr rfl fun n _ => mul_neg _ _

/-- The magnitude of frame `f` in bin `k`. -/
def mag (y w : ℕ → ℝ) (θ : ℕ → ℕ → ℝ) (f k : ℕ) : ℝ :=
  Real.sqrt (frameDot y (fun n => w n * Real.cos (θ n k)) f * frameDot y (fun n => w n * Real.cos (θ n k)) f
    + frameDot y (fun n => w n * Real.sin (θ n k)) f * frameDot y (fun n => w n * Real.sin (θ n k)) f)

/-- The output of mel filter `n` on frame `f`, a weighted sum of the first 256 bins. -/
def mel (y w : ℕ → ℝ) (θ B : ℕ → ℕ → ℝ) (f n : ℕ) : ℝ := ∑ k ∈ Finset.range 256, mag y w θ f k * B k n

/-- Weights that are not negative give a filter output that is not negative. -/
theorem mel_nonneg (y w : ℕ → ℝ) (θ B : ℕ → ℕ → ℝ) (hB : ∀ k n, 0 ≤ B k n) (f n : ℕ) : 0 ≤ mel y w θ B f n :=
  Finset.sum_nonneg fun k _ => mul_nonneg (Real.sqrt_nonneg _) (hB k n)

/-- The logarithm of a filter's output. -/
def logMel (y w : ℕ → ℝ) (θ B : ℕ → ℕ → ℝ) (ε : ℝ) (f n : ℕ) : ℝ := Real.log (mel y w θ B f n + ε)

/-- The central difference along 40 entries, zero at the two ends. -/
def delta (h : ℝ) (g : ℕ → ℝ) (q : ℕ) : ℝ := if 1 ≤ q ∧ q < 39 then (g (q + 1) - g (q - 1)) * h else 0

/-- The central difference of a weighted sum is the weighted sum of the central differences. -/
theorem delta_sum (h : ℝ) (L : ℕ → ℝ) (C : ℕ → ℕ → ℝ) (q : ℕ) :
    delta h (fun q => ∑ n ∈ Finset.range 40, L n * C n q) q = ∑ n ∈ Finset.range 40, L n * delta h (C n) q := by
  unfold delta
  by_cases hq : 1 ≤ q ∧ q < 39
  · simp only [if_pos hq]
    rw [← Finset.sum_sub_distrib, Finset.sum_mul]
    exact Finset.sum_congr rfl fun n _ => by ring
  · simp only [if_neg hq, mul_zero, Finset.sum_const_zero]

/-- Thirteen coefficients, the thirteen first differences and the thirteen second differences, side by side. -/
def triple (h : ℝ) (g : ℕ → ℝ) (j : ℕ) : ℝ :=
  if j < 13 then g j else if j < 26 then delta h g (j - 13) else delta h (delta h g) (j - 26)

/-- The triple of a weighted sum is the weighted sum of the triples. -/
theorem triple_sum (h : ℝ) (L : ℕ → ℝ) (C : ℕ → ℕ → ℝ) (j : ℕ) :
    ∑ n ∈ Finset.range 40, L n * triple h (C n) j = triple h (fun q => ∑ n ∈ Finset.range 40, L n * C n q) j := by
  unfold triple
  split_ifs
  · rfl
  · rw [delta_sum]
  · rw [funext (delta_sum h L C), delta_sum]

/-- The three groups of coefficients of frame `f` at entry `j`. -/
def coef (y w : ℕ → ℝ) (θ B C : ℕ → ℕ → ℝ) (ε h : ℝ) (f j : ℕ) : ℝ :=
  triple h (fun q => ∑ n ∈ Finset.range 40, logMel y w θ B ε f n * C n q) j

/-! ### Sums and functions of real numbers among the extended reals -/

/-- A finite sum of real numbers, taken among the extended reals, is the real sum. -/
theorem coe_sum {N : ℕ} (g : ℕ → ℝ) : ∑ i : Fin N, ((g i.val : ℝ) : EReal) = ((∑ i ∈ Finset.range N, g i : ℝ) : EReal) := by
  rw [← Fin.sum_univ_eq_sum_range]
  exact (map_sum (⟨⟨fun r : ℝ => (r : EReal), EReal.coe_zero⟩, EReal.coe_add⟩ : ℝ →+ EReal) _ _).symm

/-- A finite sum of products of real numbers, taken among the extended reals. -/
theorem coe_sum_mul {N : ℕ} (u v : Fin N → EReal) (g g' : ℕ → ℝ) (hu : ∀ i, u i = ((g i.val : ℝ) : EReal))
    (hv : ∀ i, v i = ((g' i.val : ℝ) : EReal)) :
    ∑ i : Fin N, u i * v i = ((∑ i ∈ Finset.range N, g i * g' i : ℝ) : EReal) := by
  rw [← coe_sum fun i => g i * g' i]
  exact Finset.sum_congr rfl fun i _ => by rw [hu, hv, EReal.coe_mul]

open Idealize.ShloMosaic in
/-- The square root of a real number that is not negative. -/
theorem sqrt_real {r : ℝ} (h : 0 ≤ r) : Ideal.sqrt r = (Real.sqrt r : EReal) := by
  rw [Ideal.sqrt_coe, if_neg (not_lt.mpr h)]

open Idealize.ShloMosaic in
/-- The logarithm of a positive real number. -/
theorem log_real {r : ℝ} (h : 0 < r) : Ideal.log r = (Real.log r : EReal) := by
  rw [Ideal.log_coe, if_neg (not_le.mpr h)]

end Cert.Proof

end
-- ==== Proof.KernelBody.lean ====
/- One block of the kernel, on a block whose entries are real numbers: entry (f, j) of what the body stores is
   coefficient `j` of frame `f` of that block's signal. The body is cut into five stages. -/
module

public import proofs.«01_k».proof.Proof.Gen.KernelIdeal.Skeleton
public import proofs.«01_k».proof.Proof.Words
public import proofs.«01_k».proof.Proof.Mfcc
public import Idealize.ShloMosaic.Lib.Pointwise

@[expose] public section

set_option maxRecDepth 16384

noncomputable section

namespace Cert.Proof

open Idealize.ShloMosaic Cert.KernelIdeal Cert.KernelIdeal.Gen

/-- The pre-emphasis factor, the number under the logarithm and the factor of the central difference, as the real
    numbers that the programs' binary32 words denote. -/
def preR : ℝ := val 0x3F7851EC#32
def epsR : ℝ := val 0x1E3CE508#32
def halfR : ℝ := val 0x3F000000#32

/-- The three words denote those real numbers. -/
theorem pre_coe : Ideal.ofBits .f32 0x3F7851EC#32 = (preR : EReal) := ofBits_val (by decide)
theorem eps_coe : Ideal.ofBits .f32 0x1E3CE508#32 = (epsR : EReal) := ofBits_val (by decide)
theorem half_coe : Ideal.ofBits .f32 0x3F000000#32 = (halfR : EReal) := ofBits_val (by decide)
theorem eps_pos : 0 < epsR := val_pos (by decide) (by decide)

/-! ### The stages -/

/-- The pre-emphasised block of 1000 hops of 160 samples. -/
def emphV (v0 : Vec Ideal S1x1000x160 .f32) : FVec Ideal S1000x160 .f32 :=
  have v1 : FVec Ideal S1000x160 .f32 := shapeCast S1000x160 v0 shapeCasts_S1x1000x160_S1000x160
  have v3 : FVec Ideal S999x1 .f32 := extractStridedSlice S999x1 ![0, 159] v1 slices_S1000x160_o0_159_S999x1
  have v4 : FVec Ideal S1000x1 .f32 :=
    concatenate S1000x1 0 [⟨S1x1, broadcast S1x1 (Scalar.ofBits .f32 0x00000000#32 : Ideal .f32)⟩, ⟨S999x1, v3⟩]
      concatenates_S1x1_S999x1_S1000x1_d0
  have v5 : FVec Ideal S1000x159 .f32 := extractStridedSlice S1000x159 ![0, 0] v1 slices_S1000x160_o0_0_S1000x159
  have v6 : FVec Ideal S1000x160 .f32 :=
    concatenate S1000x160 1 [⟨S1000x1, v4⟩, ⟨S1000x159, v5⟩] concatenates_S1000x1_S1000x159_S1000x160_d1
  subf v1 (mulf (broadcast S1000x160 (Scalar.ofBits .f32 0x3F7851EC#32 : Ideal .f32)) v6)

/-- The transform of the 998 frames: three products of hops with pieces of the table, added. -/
def dftV (v9 : FVec Ideal S1000x160 .f32) (v10 : Vec Ideal S400x512 .f32) : FVec Ideal S998x512 .f32 :=
  have v11 : FVec Ideal S400x512 .f32 := shapeCast S400x512 v10 shapeCasts_S400x512_S400x512
  have v12 : FVec Ideal S998x160 .f32 := extractStridedSlice S998x160 ![0, 0] v9 slices_S1000x160_o0_0_S998x160
  have v13 : FVec Ideal S160x512 .f32 := extractStridedSlice S160x512 ![0, 0] v11 slices_S400x512_o0_0_S160x512
  have v15 : FVec Ideal S998x160 .f32 := extractStridedSlice S998x160 ![1, 0] v9 slices_S1000x160_o1_0_S998x160
  have v16 : FVec Ideal S160x512 .f32 := extractStridedSlice S160x512 ![160, 0] v11 slices_S400x512_o160_0_S160x512
  have v19 : FVec Ideal S998x80 .f32 := extractStridedSlice S998x80 ![2, 0] v9 slices_S1000x160_o2_0_S998x80
  have v20 : FVec Ideal S80x512 .f32 := extractStridedSlice S80x512 ![320, 0] v11 slices_S400x512_o320_0_S80x512
  addf
    (addf (matmul dot_S998x160_S160x512_S998x512_1_0_0_1_n_n none v12 v13 (constant S998x512 .f32 0x00000000#32))
      (matmul dot_S998x160_S160x512_S998x512_1_0_0_1_n_n none v15 v16 (constant S998x512 .f32 0x00000000#32)))
    (matmul dot_S998x80_S80x512_S998x512_1_0_0_1_n_n none v19 v20 (constant S998x512 .f32 0x00000000#32))

/-- The magnitudes, from the transform's real columns and its imaginary columns. -/
def magV (v22 : FVec Ideal S998x512 .f32) : FVec Ideal S998x256 .f32 :=
  have v23 : FVec Ideal S998x256 .f32 := extractStridedSlice S998x256 ![0, 0] v22 slices_S998x512_o0_0_S998x256
  have v24 : FVec Ideal S998x256 .f32 := extractStridedSlice S998x256 ![0, 256] v22 slices_S998x512_o0_256_S998x256
  sqrt (addf (mulf v23 v23) (mulf v24 v24))

/-- The logarithms of the filters' outputs. -/
def logV (v28 : FVec Ideal S998x256 .f32) (v29 : FVec Ideal S256x40 .f32) : FVec Ideal S998x40 .f32 :=
  log (addf (matmul dot_S998x256_S256x40_S998x40_1_0_0_1_n_n none v28 v29 (constant S998x40 .f32 0x00000000#32))
    (broadcast S998x40 (Scalar.ofBits .f32 0x1E3CE508#32 : Ideal .f32)))

/-- The product with the output table. -/
def outV (v33 : FVec Ideal S998x40 .f32) (v34 : Vec Ideal S40x39 .f32) : FVec Ideal S998x39 .f32 :=
  have v35 : FVec Ideal S40x39 .f32 := shapeCast S40x39 v34 shapeCasts_S40x39_S40x39
  matmul dot_S998x40_S40x39_S998x39_1_0_0_1_n_n none v33 v35 (constant S998x39 .f32 0x00000000#32)

/-- The body's value is the five stages one after another. -/
theorem pay_eq (v0 : Vec Ideal S1x1000x160 .f32) (v10 : Vec Ideal S400x512 .f32) (v29 : Vec Ideal S256x40 .f32)
    (v34 : Vec Ideal S40x39 .f32) :
    k0_pay2 v0 v10 v29 v34 = outV (logV (magV (dftV (emphV v0) v10)) v29) v34 := rfl

/-! ### Each stage at an index, over real numbers -/

variable (x : ℕ → ℝ)

/-- Hop `r`, sample `l` of the pre-emphasised block is sample `160 r + l` of the pre-emphasised signal. -/
theorem emphV_apply (v0 : Vec Ideal S1x1000x160 .f32)
    (h0 : ∀ (r : Fin 1000) (l : Fin 160), v0 (ix3 0 r l) = ((x (160 * r.val + l.val) : ℝ) : EReal)) (r : Fin 1000) (l : Fin 160) :
    emphV v0 (ix2 r l) = ((emph preR x (160 * r.val + l.val) : ℝ) : EReal) := by
  pointwise [emphV]
  rw [pre_coe]
  unfold emph
  by_cases hz : 160 * r.val + l.val = 0
  · rw [dif_pos (by omega), dif_pos (by omega), if_pos hz, mul_zero, sub_zero, h0, hz]
  · rw [if_neg hz, h0]
    by_cases hl : l.val < 1
    · rw [dif_pos hl, dif_neg (by omega), h0, ← EReal.coe_mul, ← EReal.coe_sub,
        show 160 * r.val + l.val - 1 = 160 * (r.val - 1) + (159 + l.val) by omega]
    · rw [dif_neg hl, h0, ← EReal.coe_mul, ← EReal.coe_sub,
        show 160 * r.val + l.val - 1 = 160 * r.val + (l.val - 1) by omega]

/-- Frame `f`, column `k` of the transform is the product of the frame with the table's column. -/
theorem dftV_apply (y : ℕ → ℝ) (W : ℕ → ℕ → ℝ) (v9 : FVec Ideal S1000x160 .f32) (v10 : Vec Ideal S400x512 .f32)
    (h9 : ∀ (r : Fin 1000) (l : Fin 160), v9 (ix2 r l) = ((y (160 * r.val + l.val) : ℝ) : EReal))
    (h10 : ∀ (n : Fin 400) (k : Fin 512), v10 (ix2 n k) = ((W k.val n.val : ℝ) : EReal)) (f : Fin 998) (k : Fin 512) :
    dftV v9 v10 (ix2 f k) = ((frameDot y (W k.val) f.val : ℝ) : EReal) := by
  pointwise [dftV]
  rw [← frameDot_pieces, EReal.coe_add, EReal.coe_add]
  exact congrArg₂ (· + ·)
    (congrArg₂ (· + ·)
      (coe_sum_mul _ _ (fun l => y (160 * f.val + l)) (fun l => W k.val l) (fun l => h9 _ _) (fun l => h10 _ _))
      (coe_sum_mul _ _ (fun l => y (160 * (1 + f.val) + l)) (fun l => W k.val (160 + l)) (fun l => h9 _ _) (fun l => h10 _ _)))
    (coe_sum_mul _ _ (fun l => y (160 * (2 + f.val) + l)) (fun l => W k.val (320 + l)) (fun l => h9 _ _) (fun l => h10 _ _))

/-- The magnitude from the two real parts. -/
theorem magV_apply (u : ℕ → ℕ → ℝ) (v22 : FVec Ideal S998x512 .f32)
    (h22 : ∀ (f : Fin 998) (k : Fin 512), v22 (ix2 f k) = ((u f.val k.val : ℝ) : EReal)) (f : Fin 998) (k : Fin 256) :
    magV v22 (ix2 f k)
      = ((Real.sqrt (u f.val k.val * u f.val k.val + u f.val (256 + k.val) * u f.val (256 + k.val)) : ℝ) : EReal) := by
  pointwise [magV]
  rw [h22, h22, ← EReal.coe_mul, ← EReal.coe_mul, ← EReal.coe_add]
  exact sqrt_real (add_nonneg (mul_self_nonneg _) (mul_self_nonneg _))

/-- The logarithm of a filter's output, where the output is not negative. -/
theorem logV_apply (u B : ℕ → ℕ → ℝ) (v28 : FVec Ideal S998x256 .f32) (v29 : FVec Ideal S256x40 .f32)
    (h28 : ∀ (f : Fin 998) (k : Fin 256), v28 (ix2 f k) = ((u f.val k.val : ℝ) : EReal))
    (h29 : ∀ (k : Fin 256) (n : Fin 40), v29 (ix2 k n) = ((B k.val n.val : ℝ) : EReal)) (f : Fin 998) (n : Fin 40)
    (hp : 0 ≤ ∑ k ∈ Finset.range 256, u f.val k * B k n.val) :
    logV v28 v29 (ix2 f n) = ((Real.log ((∑ k ∈ Finset.range 256, u f.val k * B k n.val) + epsR) : ℝ) : EReal) := by
  pointwise [logV]
  rw [coe_sum_mul _ _ (fun k => u f.val k) (fun k => B k n.val) (fun k => h28 _ _) (fun k => h29 _ _), eps_coe,
    ← EReal.coe_add]
  exact log_real (add_pos_of_nonneg_of_pos hp eps_pos)

/-- The product with the output table. -/
theorem outV_apply (L T : ℕ → ℕ → ℝ) (v33 : FVec Ideal S998x40 .f32) (v34 : Vec Ideal S40x39 .f32)
    (h33 : ∀ (f : Fin 998) (n : Fin 40), v33 (ix2 f n) = ((L f.val n.val : ℝ) : EReal))
    (h34 : ∀ (n : Fin 40) (j : Fin 39), v34 (ix2 n j) = ((T n.val j.val : ℝ) : EReal)) (f : Fin 998) (j : Fin 39) :
    outV v33 v34 (ix2 f j) = ((∑ n ∈ Finset.range 40, L f.val n * T n j.val : ℝ) : EReal) := by
  pointwise [outV]
  exact coe_sum_mul _ _ (fun n => L f.val n) (fun n => T n j.val) (fun n => h33 _ _) (fun n => h34 _ _)

/-- The transform's table: the windowed cosines in the first 256 columns, the opposite windowed sines after them. -/
def wave (w : ℕ → ℝ) (θ : ℕ → ℕ → ℝ) (k n : ℕ) : ℝ :=
  if k < 256 then w n * Real.cos (θ n k) else -(w n * Real.sin (θ n (k - 256)))

/-- THE BODY: on a block of real samples, with the tables of `wave`, `B` and the triples of `C`, entry (f, j) of what the
    body stores is coefficient `j` of frame `f`. -/
theorem body_apply (w : ℕ → ℝ) (θ B C : ℕ → ℕ → ℝ) (hB : ∀ k n, 0 ≤ B k n)
    (v0 : Vec Ideal S1x1000x160 .f32) (v10 : Vec Ideal S400x512 .f32) (v29 : Vec Ideal S256x40 .f32) (v34 : Vec Ideal S40x39 .f32)
    (h0 : ∀ (r : Fin 1000) (l : Fin 160), v0 (ix3 0 r l) = ((x (160 * r.val + l.val) : ℝ) : EReal))
    (h10 : ∀ (n : Fin 400) (k : Fin 512), v10 (ix2 n k) = ((wave w θ k.val n.val : ℝ) : EReal))
    (h29 : ∀ (k : Fin 256) (n : Fin 40), v29 (ix2 k n) = ((B k.val n.val : ℝ) : EReal))
    (h34 : ∀ (n : Fin 40) (j : Fin 39), v34 (ix2 n j) = ((triple halfR (C n.val) j.val : ℝ) : EReal))
    (f : Fin 998) (j : Fin 39) :
    k0_pay2 v0 v10 v29 v34 (ix2 f j) = ((coef (emph preR x) w θ B C epsR halfR f.val j.val : ℝ) : EReal) := by
  rw [pay_eq]
  have hd := dftV_apply (emph preR x) (wave w θ) _ v10 (emphV_apply x v0 h0) h10
  have hm := magV_apply (fun f k => frameDot (emph preR x) (wave w θ k) f) _ hd
  have hm' : ∀ (f : Fin 998) (k : Fin 256), magV (dftV (emphV v0) v10) (ix2 f k)
      = ((mag (emph preR x) w θ f.val k.val : ℝ) : EReal) := fun f k => by
    rw [hm f k]
    have e1 : wave w θ k.val = fun n => w n * Real.cos (θ n k.val) := by
      funext n; unfold wave; rw [if_pos k.isLt]
    have e2 : wave w θ (256 + k.val) = fun n => -(w n * Real.sin (θ n k.val)) := by
      funext n; unfold wave; rw [if_neg (by omega), show 256 + k.val - 256 = k.val by omega]
    unfold mag
    simp only [e1, e2]
    rw [frameDot_neg, neg_mul_neg]
  have hl : ∀ (f : Fin 998) (n : Fin 40), logV (magV (dftV (emphV v0) v10)) v29 (ix2 f n)
      = ((logMel (emph preR x) w θ B epsR f.val n.val : ℝ) : EReal) := fun f n =>
    logV_apply (mag (emph preR x) w θ) B _ v29 hm' h29 f n (mel_nonneg _ _ _ _ hB _ _)
  rw [outV_apply (logMel (emph preR x) w θ B epsR) (fun n j => triple halfR (C n) j) _ v34 hl h34 f j]
  unfold coef
  rw [triple_sum]

end Cert.Proof

end
-- ==== Proof.Tables.lean ====
/- The literal tables of the two programs. The window, the mel filters and the cosine basis are the same binary32
   words in both programs, every word is a finite number, and no filter weight is negative. -/
module

public import proofs.«01_k».proof.KernelIdeal
public import proofs.«01_k».proof.ReferenceIdeal

@[expose] public section

set_option maxRecDepth 65536

namespace Cert.Proof

/-- The two programs hold the same window, word by word. -/
theorem win_eq : ∀ i : Fin 400, Cert.KernelIdeal.lit0 i = Cert.ReferenceIdeal.lit0 i := fun _ => rfl

/-- The two programs hold the same cosine basis, word by word. -/
theorem dct_eq : ∀ i : Fin 1600, Cert.KernelIdeal.lit1 i = Cert.ReferenceIdeal.lit2 i := fun _ => rfl

/-- The kernel's filter table is the first 256 rows of the reference's 257, word by word. -/
theorem fb_eq : ∀ i : Fin 10240, Cert.KernelIdeal.lit2 i = Cert.ReferenceIdeal.lit1 ⟨i.val, by omega⟩ := by
  decide +kernel

/-- The last row of the reference's filter table, that of the bin the kernel leaves out, is zero. -/
theorem fb_last : ∀ j : Fin 40, Cert.ReferenceIdeal.lit1 ⟨10240 + j.val, by omega⟩ = 0#32 := by decide +kernel

/-- Every word of the window is finite and not negative. -/
theorem win_lt : ∀ i : Fin 400, (Cert.KernelIdeal.lit0 i).toNat < 0x7F800000 := by decide +kernel

/-- Every word of the cosine basis is finite. -/
theorem dct_lt : ∀ i : Fin 1600, (Cert.KernelIdeal.lit1 i).toNat % 0x80000000 < 0x7F800000 := by decide +kernel

/-- Every word of the filter table is finite and not negative. -/
theorem fb_lt : ∀ i : Fin 10240, (Cert.KernelIdeal.lit2 i).toNat < 0x7F800000 := by decide +kernel

end Cert.Proof
-- ==== Proof.TableValues.lean ====
/- The tables as real numbers: window, filter weights, cosine basis and angles, each read in the kernel's program
   and in the reference's. -/
module

public import proofs.«01_k».proof.Proof.Tables
public import proofs.«01_k».proof.Proof.Words
public import proofs.«01_k».proof.Proof.Mfcc
public import Idealize.ShloMosaic.Lib.Pointwise

@[expose] public section

noncomputable section

namespace Cert.Proof

open Idealize.ShloMosaic

/-- The window. -/
def winR (n : ℕ) : ℝ := if h : n < 400 then val (Cert.KernelIdeal.lit0 ⟨n, h⟩) else 0

/-- The weight of bin `k` in filter `n`, zero past the 256 bins that the kernel keeps. -/
def fbR (k n : ℕ) : ℝ := if h : k * 40 + n < 10240 then val (Cert.KernelIdeal.lit2 ⟨k * 40 + n, h⟩) else 0

/-- The cosine basis: the factor of filter `n` in coefficient `q`. -/
def dctR (n q : ℕ) : ℝ := if h : n * 40 + q < 1600 then val (Cert.KernelIdeal.lit1 ⟨n * 40 + q, h⟩) else 0

/-- The angle of sample `n` in bin `k`, `2π · n k / 512`, with the two words of 2 and 512 as they stand. -/
def angR (n k : ℕ) : ℝ := val 0x40000000#32 * Real.arccos (-1) * (n * k : ℕ) * (1 / val 0x44000000#32)

/-- No filter weight is negative. -/
theorem fbR_nonneg (k n : ℕ) : 0 ≤ fbR k n := by
  unfold fbR
  split_ifs with h
  · exact val_nonneg (fb_lt _)
  · exact le_refl _

/-! ### The window -/

/-- The kernel's window at an index. -/
theorem winK_coe (n : Fin 400) :
    Ideal.ofBits .f32 (Cert.KernelIdeal.lit0 (Cert.KernelIdeal.S400.rowMajor (ix1 n))) = ((winR n.val : ℝ) : EReal) := by
  have e : Cert.KernelIdeal.S400.rowMajor (ix1 n) = n := Fin.ext (Shape.rowMajor_val_one _)
  have hlt := win_lt n
  unfold winR
  rw [dif_pos n.isLt, e]
  exact ofBits_val (by omega)

/-- The reference's window at an index. -/
theorem winR_coe (n : Fin 400) :
    Ideal.ofBits .f32 (Cert.ReferenceIdeal.lit0 (Cert.ReferenceIdeal.S400.rowMajor (ix1 n))) = ((winR n.val : ℝ) : EReal) := by
  rw [← winK_coe]
  exact congrArg _ (win_eq _).symm

/-! ### The filter weights -/

/-- The kernel's filter table at an index. -/
theorem fbK_coe (k : Fin 256) (n : Fin 40) :
    Ideal.ofBits .f32 (Cert.KernelIdeal.lit2 (Cert.KernelIdeal.S256x40.rowMajor (ix2 k n))) = ((fbR k.val n.val : ℝ) : EReal) := by
  have hb : k.val * 40 + n.val < 10240 := by omega
  have e : Cert.KernelIdeal.S256x40.rowMajor (ix2 k n) = ⟨k.val * 40 + n.val, hb⟩ := Fin.ext (Shape.rowMajor_val_two _)
  have hlt := fb_lt ⟨k.val * 40 + n.val, hb⟩
  unfold fbR
  rw [dif_pos hb, e]
  exact ofBits_val (by omega)

/-- The reference's filter table at an index; the last bin's weights are zero. -/
theorem fbR_coe (k : Fin 257) (n : Fin 40) :
    Ideal.ofBits .f32 (Cert.ReferenceIdeal.lit1 (Cert.ReferenceIdeal.S257x40.rowMajor (ix2 k n))) = ((fbR k.val n.val : ℝ) : EReal) := by
  have hb : k.val * 40 + n.val < 10280 := by omega
  have e : Cert.ReferenceIdeal.S257x40.rowMajor (ix2 k n) = ⟨k.val * 40 + n.val, hb⟩ := Fin.ext (Shape.rowMajor_val_two _)
  rw [e]
  unfold fbR
  by_cases h : k.val * 40 + n.val < 10240
  · have hlt := fb_lt ⟨k.val * 40 + n.val, h⟩
    rw [dif_pos h, ← fb_eq ⟨k.val * 40 + n.val, h⟩]
    exact ofBits_val (by omega)
  · have e' : (⟨k.val * 40 + n.val, hb⟩ : Fin 10280) = ⟨10240 + n.val, by omega⟩ := Fin.ext (by show k.val * 40 + n.val = 10240 + n.val; omega)
    rw [dif_neg h]
    exact (congrArg (Ideal.ofBits .f32) ((congrArg Cert.ReferenceIdeal.lit1 e').trans (fb_last n))).trans Ideal.ofBits_zero_f32

/-! ### The cosine basis -/

/-- The kernel's cosine basis at an index. -/
theorem dctK_coe (n q : Fin 40) :
    Ideal.ofBits .f32 (Cert.KernelIdeal.lit1 (Cert.KernelIdeal.S40x40.rowMajor (ix2 n q))) = ((dctR n.val q.val : ℝ) : EReal) := by
  have hb : n.val * 40 + q.val < 1600 := by omega
  have e : Cert.KernelIdeal.S40x40.rowMajor (ix2 n q) = ⟨n.val * 40 + q.val, hb⟩ := Fin.ext (Shape.rowMajor_val_two _)
  have hlt := dct_lt ⟨n.val * 40 + q.val, hb⟩
  unfold dctR
  rw [dif_pos hb, e]
  exact ofBits_val hlt

/-- The reference's cosine basis at an index. -/
theorem dctR_coe (n q : Fin 40) :
    Ideal.ofBits .f32 (Cert.ReferenceIdeal.lit2 (Cert.ReferenceIdeal.S40x40.rowMajor (ix2 n q))) = ((dctR n.val q.val : ℝ) : EReal) := by
  rw [← dctK_coe]
  exact congrArg _ (dct_eq _).symm

/-! ### The angles -/

/-- The product of two index words is the word of the product. -/
theorem muli_ofNat (n k : ℕ) : IntOp.muli (BitVec.ofNat 32 n) (BitVec.ofNat 32 k) = BitVec.ofNat 32 (n * k) := by
  unfold IntOp.muli
  apply BitVec.eq_of_toNat_eq
  simp [Nat.mul_mod]

/-- The product of two index words as a real number. -/
theorem sitofp_mul {n k : ℕ} (h : n * k < 2 ^ 31) :
    (FloatOps.sitofp .f32 (IntOp.muli (BitVec.ofNat 32 n) (BitVec.ofNat 32 k)) : Ideal .f32) = (((n * k : ℕ) : ℝ) : EReal) := by
  rw [muli_ofNat]
  show (((BitVec.ofNat 32 (n * k)).toInt : ℝ) : EReal) = _
  rw [BitVec.toInt_eq_toNat_of_lt (by rw [BitVec.toNat_ofNat]; omega), BitVec.toNat_ofNat, Nat.mod_eq_of_lt (by omega)]
  norm_num

/-- The angle as both programs compute it. -/
theorem ang_coe {n k : ℕ} (hn : n < 400) (hk : k < 257) :
    Ideal.div (Ideal.ofBits .f32 0x40000000#32 * Ideal.acos (Ideal.ofBits .f32 0xBF800000#32)
        * (FloatOps.sitofp .f32 (IntOp.muli (BitVec.ofNat 32 n) (BitVec.ofNat 32 k)) : Ideal .f32))
      (Ideal.ofBits .f32 0x44000000#32) = ((angR n k : ℝ) : EReal) := by
  have hnk : n * k < 2 ^ 31 := lt_of_le_of_lt (Nat.mul_le_mul hn.le hk.le) (by norm_num)
  have hd : val 0x44000000#32 ≠ 0 := (val_pos (by decide) (by decide)).ne'
  rw [sitofp_mul hnk, ofBits_val (b := 0x40000000#32) (by decide), ofBits_val (b := 0xBF800000#32) (by decide),
    ofBits_val (b := 0x44000000#32) (by decide), val_negOne, Ideal.acos_coe, if_pos (by norm_num), Ideal.div_coe hd]
  unfold angR
  simp only [EReal.coe_mul]

end Cert.Proof

end
-- ==== Proof.KernelHost.lean ====
/- What the kernel's four operands hold when the kernel starts: the signal cut into hops, and the three tables, each
   entry a real number (the signal's where the argument's are). -/
module

public import proofs.«01_k».proof.Proof.Gen.KernelIdeal.Frame
public import proofs.«01_k».proof.Proof.KernelBody
public import proofs.«01_k».proof.Proof.TableValues
public import Idealize.ShloMosaic.Lib.StableHlo.ReadAt

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- Hop `r`, sample `l` of signal `b` is its sample `160 r + l`. -/
theorem hops_apply (c : Dev nD) (b : Fin 64) (r : Fin 1000) (l : Fin 160) :
    (V m c main_v0 : FVec Ideal S64x1000x160 .f32) (ix3 b r l)
      = (m ((c : Thread nD τ).loc main_arg0) : FVec Ideal S64x160000 .f32) (ix2 b ⟨r.val * 160 + l.val, by omega⟩) := by
  unfold V
  after_reads_at

/-- The filter table. -/
theorem filters_apply (c : Dev nD) (k : Fin 256) (n : Fin 40) :
    (V m c main_cst_1 : FVec Ideal S256x40 .f32) (ix2 k n) = ((fbR k.val n.val : ℝ) : EReal) := by
  unfold V
  after_reads_at
  exact fbK_coe k n

/-- The transform's table: windowed cosines, then the opposite windowed sines. -/
theorem waves_apply (c : Dev nD) (n : Fin 400) (k : Fin 512) :
    (V m c main_v24 : FVec Ideal S400x512 .f32) (ix2 n k) = ((wave winR angR k.val n.val : ℝ) : EReal) := by
  unfold V
  after_reads_at
  unfold wave
  by_cases h : k.val < 256
  · rw [dif_pos h, if_pos h, ang_coe n.isLt (by omega), winK_coe, Ideal.cos_coe, EReal.coe_mul]
  · rw [dif_neg h, if_neg h, ang_coe n.isLt (by omega), winK_coe, Ideal.sin_coe, EReal.coe_neg, EReal.coe_mul]

/-- The first thirteen columns of the cosine basis. -/
theorem basis_apply (c : Dev nD) (n : Fin 40) (q : Fin 13) :
    (V m c main_v41 : FVec Ideal S40x13 .f32) (ix2 n q) = ((dctR n.val q.val : ℝ) : EReal) := by
  unfold V
  after_reads_at
  exact dctK_coe n _

/-- The half difference of two entries of the basis, as a real number. -/
theorem half_sub (u v : ℝ) : Ideal.ofBits .f32 0x3F000000#32 * (u : EReal) - Ideal.ofBits .f32 0x3F000000#32 * (v : EReal)
    = (((u - v) * halfR : ℝ) : EReal) := by
  rw [half_coe, ← EReal.coe_mul, ← EReal.coe_mul, ← EReal.coe_sub]
  congr 1
  ring

/-- The central difference as a padded half difference computes it, at one entry. -/
theorem delta_at (g : ℕ → ℝ) (q : ℕ) (u v : 1 ≤ q ∧ q - 1 < 38 → EReal)
    (hu : ∀ h, u h = ((g (2 + (q - 1)) : ℝ) : EReal)) (hv : ∀ h, v h = ((g (q - 1) : ℝ) : EReal)) :
    (if h : 1 ≤ q ∧ q - 1 < 38 then Ideal.ofBits .f32 0x3F000000#32 * u h - Ideal.ofBits .f32 0x3F000000#32 * v h else 0)
      = ((delta halfR g q : ℝ) : EReal) := by
  unfold delta
  by_cases h : 1 ≤ q ∧ q - 1 < 38
  · rw [dif_pos h, if_pos (by omega), hu, hv, half_sub, show 2 + (q - 1) = q + 1 by omega]
  · rw [dif_neg h, if_neg (by omega), EReal.coe_zero]

/-- The first differences of the basis. -/
theorem basis1_apply (c : Dev nD) (n : Fin 40) (q : Fin 13) :
    (V m c main_v42 : FVec Ideal S40x13 .f32) (ix2 n q) = ((delta halfR (dctR n.val) q.val : ℝ) : EReal) := by
  unfold V
  after_reads_at
  exact delta_at (dctR n.val) q.val _ _ (fun h => dctK_coe n _) (fun h => dctK_coe n _)

/-- The second differences of the basis. -/
theorem basis2_apply (c : Dev nD) (n : Fin 40) (q : Fin 13) :
    (V m c main_v43 : FVec Ideal S40x13 .f32) (ix2 n q) = ((delta halfR (delta halfR (dctR n.val)) q.val : ℝ) : EReal) := by
  unfold V
  after_reads_at
  exact delta_at (delta halfR (dctR n.val)) q.val _ _
    (fun h => delta_at (dctR n.val) (2 + (q.val - 1)) _ _ (fun h => dctK_coe n _) (fun h => dctK_coe n _))
    (fun h => delta_at (dctR n.val) (q.val - 1) _ _ (fun h => dctK_coe n _) (fun h => dctK_coe n _))

/-- Three tables of thirteen columns side by side. -/
def sideBySide (x0 x1 x2 : FVec Ideal S40x13 .f32) : FVec Ideal S40x39 .f32 :=
  concatenate S40x39 1 [⟨S40x13, x0⟩, ⟨S40x13, x1⟩, ⟨S40x13, x2⟩] concatenates_S40x13_S40x13_S40x13_S40x39_d1

/-- Side by side, at an entry. -/
theorem sideBySide_apply (x0 x1 x2 : FVec Ideal S40x13 .f32) (n : Fin 40) (j : Fin 39) :
    sideBySide x0 x1 x2 (ix2 n j) = if h : j.val < 13 then x0 (ix2 n ⟨j.val, h⟩)
      else if h' : j.val - 13 < 13 then x1 (ix2 n ⟨j.val - 13, h'⟩)
      else x2 (ix2 n ⟨j.val - 13 - 13, by omega⟩) := by
  pointwise [sideBySide]

open StableHlo in
/-- The output table is the basis and its first and second differences side by side. -/
theorem out_pieces (c : Dev nD) : V m c main_v44 = sideBySide (V m c main_v41) (V m c main_v42) (V m c main_v43) := by
  have hseg : (hostOps0 (F := Ideal)).drop 56 = _ :: [] := rfl
  have h : ∀ r : Ref sig .tc, r ≠ main_v44 → V m c r = upto hostOps0 (fun b => m (c, b)) 56 (Proc.devRef .tc r) := fun r hr => by
    refine (after_last_write [] hseg rfl (by simp) _).trans ?_
    exact nary_result_ne _ _ _ _ _ _ hr
  rw [h main_v41 (by decide), h main_v42 (by decide), h main_v43 (by decide)]
  refine (after_last_write [] hseg rfl (by simp) _).trans ?_
  exact nary_result _ _ _ _ _ _

/-- The output table: row `n` is the triple of row `n` of the basis. -/
theorem out_apply (c : Dev nD) (n : Fin 40) (j : Fin 39) :
    (V m c main_v44 : FVec Ideal S40x39 .f32) (ix2 n j) = ((triple halfR (dctR n.val) j.val : ℝ) : EReal) := by
  rw [out_pieces]
  refine (sideBySide_apply _ _ _ n j).trans ?_
  unfold triple
  by_cases h : j.val < 13
  · rw [dif_pos h, if_pos h]
    exact basis_apply m c n ⟨j.val, h⟩
  · rw [dif_neg h, if_neg h]
    by_cases h' : j.val - 13 < 13
    · rw [dif_pos h', if_pos (by omega)]
      exact basis1_apply m c n ⟨j.val - 13, h'⟩
    · rw [dif_neg h', if_neg (by omega)]
      rw [show j.val - 26 = j.val - 13 - 13 by omega]
      exact basis2_apply m c n ⟨j.val - 13 - 13, by omega⟩

end Cert.Proof

end
-- ==== Proof.Signal.lean ====
/- The signals of an argument array as real numbers, what the precondition says of them, and the array of
   coefficients that both programs are shown to return. -/
module

public import proofs.«01_k».proof.Proof.Gen.Pre_finite
public import proofs.«01_k».proof.Proof.KernelBody
public import proofs.«01_k».proof.Proof.TableValues
public import Idealize.ShloMosaic.Lib.Pointwise

@[expose] public section

set_option maxRecDepth 16384

noncomputable section

namespace Cert.Proof

open Idealize.ShloMosaic

local notation "Signals" => FVec Ideal (⟨2, ![64, 160000]⟩ : Shape) FTy.f32

/-- Sample `n` of signal `b` as a real number, zero past the end. -/
def sample (X : Signals) (b n : ℕ) : ℝ :=
  if h : b < 64 ∧ n < 160000 then EReal.toReal (X (ix2 ⟨b, h.1⟩ ⟨n, h.2⟩)) else 0

/-- An extended real whose absolute value is below the word of infinity is a real number. -/
theorem coe_of_abs_lt {x : EReal} (h : max x (-x) < Ideal.ofBits .f32 0x7F800000#32) : x = ((x.toReal : ℝ) : EReal) := by
  have htop : Ideal.ofBits .f32 0x7F800000#32 = ⊤ := by simp [Ideal.ofBits, Ideal.ieee]
  rw [htop] at h
  have h1 : x ≠ ⊤ := fun e => by subst e; simp at h
  have h2 : x ≠ ⊥ := fun e => by subst e; simp at h
  exact (EReal.coe_toReal h1 h2).symm

/-- Where the precondition holds, every sample is the real number that `sample` names. -/
theorem sample_coe (X : Signals) (hX : Cert.Pre_finite.fn (F := Ideal) X = fun _ => 1#1) (b : Fin 64) (n : Fin 160000) :
    X (ix2 b n) = ((sample X b.val n.val : ℝ) : EReal) := by
  have h := congrFun hX (ix2 b n)
  change Ideal.cmp .olt (max (X (ix2 b n) : EReal) (-(X (ix2 b n)))) (Ideal.ofBits .f32 0x7F800000#32) = 1#1 at h
  unfold sample
  rw [dif_pos ⟨b.isLt, n.isLt⟩]
  exact coe_of_abs_lt ((Ideal.cmp_olt_eq_one _ _).mp h)

/-- The coefficients of every frame of every signal. -/
def cepstra (X : Signals) : FVec Ideal (⟨3, ![64, 998, 39]⟩ : Shape) FTy.f32 := fun y =>
  ((coef (emph preR (sample X (y 0).val)) winR angR fbR dctR epsR halfR (y 1).val (y 2).val : ℝ) : EReal)

end Cert.Proof

end
-- ==== Proof.KernelArray.lean ====
/- The kernel's result array: grid point `b` writes block `b`, which holds the coefficients of signal `b`. -/
module

public import proofs.«01_k».proof.Proof.Gen.KernelIdeal.Value
public import proofs.«01_k».proof.Proof.KernelHost
public import proofs.«01_k».proof.Proof.Signal
public import Idealize.ShloMosaic.Lib.Pipeline.ValueKit

@[expose] public section

set_option maxRecDepth 16384

noncomputable section

namespace Cert.Proof

open Idealize.ShloMosaic Idealize.ShloMosaic.TcCoe Cert.KernelIdeal Cert.KernelIdeal.Gen

variable (m : (ℓ : Loc nD τ sig) → Buf (Elt Ideal) ℓ)

/-- The grid point as a signal's number. -/
theorem point_lt (t : Fin cfg0.N) : t.val < 64 := t.isLt

/-- Point `t` works on signal `t`, and on the whole of each table. -/
theorem index0 : ∀ t : Fin cfg0.N, win0_0.index t = ![t.val, 0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![t.val, 0, 0] := (by decide +kernel : ∀ t : Fin grid0.N, _)

/-- The block of hops at point `t` is signal `t`. -/
theorem block0 (c : Dev nD) (t : Fin cfg0.N) (r : Fin 1000) (l : Fin 160) :
    (iblk m c 0 t : FVec Ideal S1x1000x160 .f32) (ix3 0 r l)
      = (V m c main_v0 : FVec Ideal S64x1000x160 .f32) (ix3 ⟨t.val, point_lt t⟩ r l) := by
  blk_ext [iblk, index0 t]

/-- The three tables are whole at every point. -/
theorem block1 (c : Dev nD) (t : Fin cfg0.N) (n : Fin 400) (k : Fin 512) :
    (iblk m c 1 t : FVec Ideal S400x512 .f32) (ix2 n k) = (V m c main_v24 : FVec Ideal S400x512 .f32) (ix2 n k) := by
  blk_ext [iblk, index1 t]
theorem block2 (c : Dev nD) (t : Fin cfg0.N) (k : Fin 256) (n : Fin 40) :
    (iblk m c 2 t : FVec Ideal S256x40 .f32) (ix2 k n) = (V m c main_cst_1 : FVec Ideal S256x40 .f32) (ix2 k n) := by
  blk_ext [iblk, index2 t]
theorem block3 (c : Dev nD) (t : Fin cfg0.N) (n : Fin 40) (j : Fin 39) :
    (iblk m c 3 t : FVec Ideal S40x39 .f32) (ix2 n j) = (V m c main_v44 : FVec Ideal S40x39 .f32) (ix2 n j) := by
  blk_ext [iblk, index3 t]

/-- What the body computes at point `t`, where the argument's entries are real numbers. -/
theorem point_value (c : Dev nD)
    (hX : Cert.Pre_finite.fn (F := Ideal) (m ((c.tc : Thread nD τ).loc main_arg0)) = fun _ => 1#1)
    (t : Fin cfg0.N) (f : Fin 998) (j : Fin 39) :
    k0_pay2 (F := Ideal) (iblk m c 0 t) (iblk m c 1 t) (iblk m c 2 t) (iblk m c 3 t) (ix2 f j)
      = ((coef (emph preR (sample (m ((c.tc : Thread nD τ).loc main_arg0)) t.val)) winR angR fbR dctR epsR halfR f.val j.val : ℝ) : EReal) := by
  refine body_apply _ winR angR fbR dctR fbR_nonneg _ _ _ _ (fun r l => ?_) (fun n k => ?_) (fun k n => ?_) (fun n j => ?_) f j
  · rw [block0, hops_apply]
    refine (sample_coe _ hX _ _).trans ?_
    show ((sample _ t.val (r.val * 160 + l.val) : ℝ) : EReal) = _
    rw [Nat.mul_comm r.val 160]
  · rw [block1, waves_apply]
  · rw [block2, filters_apply]
  · rw [block3, out_apply]

/-- THE KERNEL'S RESULT: the coefficients of every frame of every signal. -/
theorem kernel_array (c : Dev nD)
    (hX : Cert.Pre_finite.fn (F := Ideal) (m ((c.tc : Thread nD τ).loc main_arg0)) = fun _ => 1#1) :
    (dats (F := Ideal) m 0 c).arrAt 4 cfg0.N = cepstra (m ((c.tc : Thread nD τ).loc main_arg0)) := by
  refine (dats m 0 c).arrAt_eq_of_covers 4 _ (by decide +kernel) fun t hf y => ?_
  blk_simp
  rw [after0_4]
  frame_out
  have h0 : (y 0).val < 1 := (y 0).isLt
  have h1 : (y 1).val < 998 := (y 1).isLt
  have h2 : (y 2).val < 39 := (y 2).isLt
  refine (Value.piece4_0 _ _ _ _ y).trans ?_
  refine (congrArg _ (?_ : Value.ix4_0 (r0_4.idx y) = ix2 ⟨(y 1).val, h1⟩ ⟨(y 2).val, h2⟩)).trans ?_
  · refine funext fun a => Fin.ext ?_
    match a with
    | ⟨0, _⟩ => show 0 + 1 * (y 1).val = (y 1).val; omega
    | ⟨1, _⟩ => show 0 + 1 * (y 2).val = (y 2).val; omega
  refine (point_value m c hX t _ _).trans ?_
  unfold cepstra
  blk_simp [index4 t]

end Cert.Proof

end
-- ==== Proof.Reference.lean ====
/- The reference's result, on an argument whose entries are real numbers. Its operations are cut into six stages:
   pre-emphasis, frames, magnitudes, logarithms of the filters' outputs, the cosine transform, and the triples. -/
module

public import proofs.«01_k».proof.Proof.Gen.ReferenceIdeal.Run
public import proofs.«01_k».proof.Proof.Signal
public import Idealize.ShloMosaic.Lib.Pointwise
public import Idealize.ShloMosaic.Lib.Tactic.WordOmega

@[expose] public section

set_option maxRecDepth 16384

noncomputable section

namespace Cert.Proof.Ref

open Idealize.ShloMosaic Idealize.ShloMosaic.TcCoe Cert.ReferenceIdeal Cert.ReferenceIdeal.Gen

/-! ### The stages -/

/-- The pre-emphasised signals. -/
def emphS (X : FVec Ideal S64x160000 .f32) : FVec Ideal S64x160000 .f32 :=
  concatenate S64x160000 1
    [⟨S64x1, extractStridedSlice S64x1 ![0, 0] X slices_S64x160000_S64x1_0_0⟩,
     ⟨S64x159999, subf (extractStridedSlice S64x159999 ![0, 1] X slices_S64x160000_S64x159999_0_1)
        (mulf (broadcastInDim S64x159999 ![] bcast_S_S64x159999 (constant (F := Ideal) S_ .f32 0x3F7851EC#32))
          (extractStridedSlice S64x159999 ![0, 0] X slices_S64x160000_S64x159999_0_0))⟩]
    concatenates_S64x1_S64x159999_S64x160000_d1

/-- The position of sample `n` of frame `f`, as a word. -/
def place : IVec S998x400 32 :=
  addi
    (broadcastInDim S998x400 ![0, 1] bcast_S998x1_S998x400_0_1
      (muli (broadcastInDim S998x1 ![0] bcast_S998_S998x1_0 (iotaInDim S998 32 0))
        (broadcastInDim S998x1 ![] bcast_S_S998x1 (constantI S_ 32 160#32))))
    (broadcastInDim S998x400 ![0, 1] bcast_S1x400_S998x400_0_1
      (broadcastInDim S1x400 ![1] bcast_S400_S1x400_1 (iotaInDim S400 32 0)))

/-- The positions as the indexing reads them: a negative one would count from the end. -/
def places : IVec S998x400x1 32 :=
  broadcastInDim S998x400x1 ![0, 1] bcast_S998x400_S998x400x1_0_1
    (select (cmpi .slt place (broadcastInDim S998x400 ![] bcast_S_S998x400 (constantI S_ 32 0#32)))
      (addi place (broadcastInDim S998x400 ![] bcast_S_S998x400 (constantI S_ 32 160000#32))) place)

/-- The windowed frames. -/
def frameS (Y : FVec Ideal S64x160000 .f32) : FVec Ideal S64x998x400 .f32 :=
  mulf (Host.gather gather_S64x160000_S998x400x1_S64x998x400_0_1_n_n_1_2_641 Y places)
    (broadcastInDim S64x998x400 ![0, 1, 2] bcast_S1x1x400_S64x998x400_0_1_2
      (broadcastInDim S1x1x400 ![2] bcast_S400_S1x1x400_2
        ((fun i => FloatOps.ofBits .f32 (lit0 (S400.rowMajor i))) : FVec Ideal S400 .f32)))

/-- The table of angles. -/
def angS : FVec Ideal S400x257 .f32 :=
  Host.divf
    (mulf (broadcastInDim S400x257 ![] bcast_S_S400x257
        (mulf (constant (F := Ideal) S_ .f32 0x40000000#32) (Host.acos (constant (F := Ideal) S_ .f32 0xBF800000#32))))
      (sitofp .f32
        (muli (broadcastInDim S400x257 ![0, 1] bcast_S400x1_S400x257_0_1 (broadcastInDim S400x1 ![0] bcast_S400_S400x1_0 (iotaInDim S400 32 0)))
          (broadcastInDim S400x257 ![0, 1] bcast_S1x257_S400x257_0_1 (broadcastInDim S1x257 ![1] bcast_S257_S1x257_1 (iotaInDim S257 32 0))))))
    (broadcastInDim S400x257 ![] bcast_S_S400x257 (constant (F := Ideal) S_ .f32 0x44000000#32))

/-- The product of the windowed frames with a table of waves. -/
def waveS (Z : FVec Ideal S64x998x400 .f32) (W : FVec Ideal S400x257 .f32) : FVec Ideal S64x998x257 .f32 :=
  Host.dotGeneral dot_S64x998x400_S400x257_S64x998x257_2_0_01_1_n_n none Z W

/-- The magnitude from the real part and the opposite of the imaginary part. -/
def magS (U S : FVec Ideal S64x998x257 .f32) : FVec Ideal S64x998x257 .f32 :=
  Host.sqrt (addf (mulf U U) (mulf (Host.negf S) (Host.negf S)))

/-- The logarithms of the filters' outputs. -/
def logS (M : FVec Ideal S64x998x257 .f32) : FVec Ideal S64x998x40 .f32 :=
  Host.log (addf
    (Host.dotGeneral dot_S64x998x257_S257x40_S64x998x40_2_0_01_1_n_n none M
      ((fun i => FloatOps.ofBits .f32 (lit1 (S257x40.rowMajor i))) : FVec Ideal S257x40 .f32))
    (broadcastInDim S64x998x40 ![] bcast_S_S64x998x40 (constant (F := Ideal) S_ .f32 0x1E3CE508#32)))

/-- The cosine transform. -/
def dctS (L : FVec Ideal S64x998x40 .f32) : FVec Ideal S64x998x40 .f32 :=
  Host.dotGeneral dot_S64x998x40_S40x40_S64x998x40_2_0_01_1_n_n none L
    ((fun i => FloatOps.ofBits .f32 (lit2 (S40x40.rowMajor i))) : FVec Ideal S40x40 .f32)

/-- The central difference along the coefficients. -/
def deltaS (D : FVec Ideal S64x998x40 .f32) : FVec Ideal S64x998x40 .f32 :=
  pad S64x998x40 ![0, 0, 1] ![0, 0, 1] ![0, 0, 0]
    (mulf (subf (extractStridedSlice S64x998x38 ![0, 0, 2] D slices_S64x998x40_S64x998x38_0_0_2)
        (extractStridedSlice S64x998x38 ![0, 0, 0] D slices_S64x998x40_S64x998x38_0_0_0))
      (broadcastInDim S64x998x38 ![] bcast_S_S64x998x38 (constant (F := Ideal) S_ .f32 0x3F000000#32)))
    (constant (F := Ideal) S_ .f32 0x00000000#32) pads_S64x998x38_S64x998x40_000_000_110 h_S_

/-- The first thirteen of three arrays, side by side. -/
def tripleS (D0 D1 D2 : FVec Ideal S64x998x40 .f32) : FVec Ideal S64x998x39 .f32 :=
  concatenate S64x998x39 2
    [⟨S64x998x13, extractStridedSlice S64x998x13 ![0, 0, 0] D0 slices_S64x998x40_S64x998x13_0_0_0⟩,
     ⟨S64x998x13, extractStridedSlice S64x998x13 ![0, 0, 0] D1 slices_S64x998x40_S64x998x13_0_0_0⟩,
     ⟨S64x998x13, extractStridedSlice S64x998x13 ![0, 0, 0] D2 slices_S64x998x40_S64x998x13_0_0_0⟩]
    concatenates_S64x998x13_S64x998x13_S64x998x13_S64x998x39_d2

/-- The cepstra before the differences are taken. -/
def cepS (X : FVec Ideal S64x160000 .f32) : FVec Ideal S64x998x40 .f32 :=
  dctS (logS (magS (waveS (frameS (emphS X)) (Host.cos angS)) (waveS (frameS (emphS X)) (Host.sin angS))))

/-- The reference's result is the stages one after another. -/
theorem result_eq (m : (ℓ : Loc nD τ sig) → Buf (Elt Ideal) ℓ) (c : Dev nD) :
    Cert.ReferenceIdeal.Value.res_main_v69 m c
      = tripleS (cepS (m ((c.tc : Thread nD τ).loc main_arg0))) (deltaS (cepS (m ((c.tc : Thread nD τ).loc main_arg0))))
          (deltaS (deltaS (cepS (m ((c.tc : Thread nD τ).loc main_arg0))))) := by
  unfold Cert.ReferenceIdeal.Value.res_main_v69
  rfl

/-! ### Each stage at an index, over real numbers -/

/-- Pre-emphasis, at an entry. -/
theorem emphS_pieces (X : FVec Ideal S64x160000 .f32) (b : Fin 64) (i : Fin 160000) :
    emphS X (ix2 b i) = if _ : i.val < 1 then X (ix2 b ⟨i.val, by omega⟩)
      else X (ix2 b ⟨1 + (i.val - 1), by omega⟩) - Ideal.ofBits .f32 0x3F7851EC#32 * X (ix2 b ⟨i.val - 1, by omega⟩) := by
  pointwise [emphS]

/-- Pre-emphasis of real signals. -/
theorem emphS_apply (X : FVec Ideal S64x160000 .f32) (x : ℕ → ℕ → ℝ)
    (hX : ∀ (b : Fin 64) (i : Fin 160000), X (ix2 b i) = ((x b.val i.val : ℝ) : EReal)) (b : Fin 64) (i : Fin 160000) :
    emphS X (ix2 b i) = ((emph preR (x b.val) i.val : ℝ) : EReal) := by
  rw [emphS_pieces, pre_coe]
  unfold emph
  by_cases h : i.val < 1
  · rw [dif_pos h, if_pos (by omega), hX]
    have e : i.val = 0 := by omega
    simp only [e]
  · have e : 1 + (i.val - 1) = i.val := by omega
    rw [dif_neg h, if_neg (by omega), hX, hX, ← EReal.coe_mul, ← EReal.coe_sub]
    simp only [e]

/-- Sample `n` of frame `f` stands at `160 f + n`. -/
theorem place_apply (f : Fin 998) (n : Fin 400) : place (ix2 f n) = BitVec.ofNat 32 (160 * f.val + n.val) := by
  pointwise [place]
  show IntOp.addi (IntOp.muli (BitVec.ofNat 32 f.val) (BitVec.ofNat 32 160)) (BitVec.ofNat 32 n.val) = _
  rw [muli_ofNat, Nat.mul_comm f.val 160, BitVec.ofNat_add]
  rfl

/-- The position read as a signed integer. -/
theorem places_apply (f : Fin 998) (n : Fin 400) : (places (ix3 f n 0)).toInt.toNat = 160 * f.val + n.val := by
  have hlt : 160 * f.val + n.val < 2 ^ 31 := by omega
  have h : (BitVec.ofNat 32 (160 * f.val + n.val)).toInt = ((160 * f.val + n.val : ℕ) : ℤ) := by
    have e : (BitVec.ofNat 32 (160 * f.val + n.val)).toNat = 160 * f.val + n.val := by
      rw [BitVec.toNat_ofNat, Nat.mod_eq_of_lt (by omega)]
    rw [BitVec.toInt_eq_toNat_of_lt (by omega), e]
  have hs : IntOp.cmpi .slt (BitVec.ofNat 32 (160 * f.val + n.val)) 0#32 = 0#1 := by
    show BitVec.ofBool (BitVec.slt _ _) = _
    have e : BitVec.slt (BitVec.ofNat 32 (160 * f.val + n.val)) 0#32 = false := by
      rw [BitVec.slt, h]
      exact decide_eq_false (by rw [BitVec.toInt_zero]; omega)
    rw [e]
    rfl
  pointwise [places]
  rw [place_apply, hs]
  show (BitVec.ofNat 32 (160 * f.val + n.val)).toInt.toNat = _
  rw [h, Int.toNat_natCast]

/-- The indexing takes sample `n` of frame `f` of every signal. -/
theorem gather_apply (Y : FVec Ideal S64x160000 .f32) (I : IVec S998x400x1 32) (b : Fin 64) (f : Fin 998) (n : Fin 400) (p : Fin 160000)
    (hp : (I (ix3 f n 0)).toInt.toNat = p.val) :
    Host.gather gather_S64x160000_S998x400x1_S64x998x400_0_1_n_n_1_2_641 Y I (ix3 b f n) = Y (ix2 b p) := by
  unfold Host.gather
  refine congrArg Y (funext fun a => Fin.ext ?_)
  show GatherDims.start _ (ix3 b f n) I a + GatherDims.batchCoord _ (ix3 b f n) a + GatherDims.offCoord _ (ix3 b f n) a = _
  rw [GatherDims.batchCoord_eq_zero _ _ _ List.not_mem_nil, Nat.add_zero]
  have ha : a = 0 ∨ a = 1 := by
    match a with
    | ⟨0, _⟩ => exact Or.inl rfl
    | ⟨1, _⟩ => exact Or.inr rfl
  rcases ha with rfl | rfl
  · unfold GatherDims.start GatherDims.offCoord
    rw [dif_neg (by decide), dif_pos (by decide), Nat.zero_add]
    rfl
  · rw [GatherDims.offCoord_eq_zero _ _ _ (by decide), Nat.add_zero]
    unfold GatherDims.start
    rw [dif_pos (by decide)]
    refine (?_ : _ = min (I (ix3 f n 0)).toInt.toNat (160000 - 1)).trans ?_
    · refine congrArg (fun i => min (I i).toInt.toNat (160000 - 1)) (funext fun e => Fin.ext ?_)
      match e with
      | ⟨0, _⟩ => rfl
      | ⟨1, _⟩ => rfl
      | ⟨2, _⟩ => rfl
    · rw [hp]
      exact min_eq_left (by omega)

/-- The windowed frames. -/
theorem frameS_apply (Y : FVec Ideal S64x160000 .f32) (y : ℕ → ℕ → ℝ)
    (hY : ∀ (b : Fin 64) (i : Fin 160000), Y (ix2 b i) = ((y b.val i.val : ℝ) : EReal)) (b : Fin 64) (f : Fin 998) (n : Fin 400) :
    frameS Y (ix3 b f n) = ((y b.val (160 * f.val + n.val) * winR n.val : ℝ) : EReal) := by
  pointwise [frameS]
  rw [EReal.coe_mul]
  refine congrArg₂ (· * ·) ?_ (winR_coe n)
  exact (gather_apply Y places b f n ⟨160 * f.val + n.val, by omega⟩ (places_apply f n)).trans (hY b _)

/-- The angles. -/
theorem angS_apply (n : Fin 400) (k : Fin 257) : angS (ix2 n k) = ((angR n.val k.val : ℝ) : EReal) := by
  pointwise [angS]
  exact ang_coe n.isLt k.isLt

/-- The product of a windowed frame with a column of waves is the product of the frame with the windowed column. -/
theorem waveS_apply (Z : FVec Ideal S64x998x400 .f32) (W : FVec Ideal S400x257 .f32) (y : ℕ → ℕ → ℝ) (w : ℕ → ℝ) (s : ℕ → ℕ → ℝ)
    (hZ : ∀ (b : Fin 64) (f : Fin 998) (n : Fin 400), Z (ix3 b f n) = ((y b.val (160 * f.val + n.val) * w n.val : ℝ) : EReal))
    (hW : ∀ (n : Fin 400) (k : Fin 257), W (ix2 n k) = ((s n.val k.val : ℝ) : EReal)) (b : Fin 64) (f : Fin 998) (k : Fin 257) :
    waveS Z W (ix3 b f k) = ((frameDot (y b.val) (fun n => w n * s n k.val) f.val : ℝ) : EReal) := by
  pointwise [waveS]
  refine (coe_sum_mul _ _ (fun n => y b.val (160 * f.val + n) * w n) (fun n => s n k.val) (fun n => hZ _ _ _) (fun n => hW _ _)).trans ?_
  unfold frameDot
  simp only [mul_assoc]

/-- The magnitudes. -/
theorem magS_apply (U S : FVec Ideal S64x998x257 .f32) (u s : ℕ → ℕ → ℕ → ℝ)
    (hU : ∀ (b : Fin 64) (f : Fin 998) (k : Fin 257), U (ix3 b f k) = ((u b.val f.val k.val : ℝ) : EReal))
    (hS : ∀ (b : Fin 64) (f : Fin 998) (k : Fin 257), S (ix3 b f k) = ((s b.val f.val k.val : ℝ) : EReal))
    (b : Fin 64) (f : Fin 998) (k : Fin 257) :
    magS U S (ix3 b f k) = ((Real.sqrt (u b.val f.val k.val * u b.val f.val k.val + s b.val f.val k.val * s b.val f.val k.val) : ℝ) : EReal) := by
  pointwise [magS]
  rw [hU, hS, ← EReal.coe_neg, ← EReal.coe_mul, ← EReal.coe_mul, ← EReal.coe_add, neg_mul_neg]
  exact sqrt_real (add_nonneg (mul_self_nonneg _) (mul_self_nonneg _))

/-- The filters weigh no bin past the 256th. -/
theorem mel_last (g : ℕ → ℝ) (n : ℕ) (hn : n < 40) :
    ∑ k ∈ Finset.range 257, g k * fbR k n = ∑ k ∈ Finset.range 256, g k * fbR k n := by
  rw [Finset.sum_range_succ, show fbR 256 n = 0 by unfold fbR; rw [dif_neg (by omega)], mul_zero, add_zero]

/-- The logarithms. -/
theorem logS_apply (M : FVec Ideal S64x998x257 .f32) (g : ℕ → ℕ → ℕ → ℝ)
    (hM : ∀ (b : Fin 64) (f : Fin 998) (k : Fin 257), M (ix3 b f k) = ((g b.val f.val k.val : ℝ) : EReal))
    (b : Fin 64) (f : Fin 998) (n : Fin 40) (hp : 0 ≤ ∑ k ∈ Finset.range 256, g b.val f.val k * fbR k n.val) :
    logS M (ix3 b f n) = ((Real.log ((∑ k ∈ Finset.range 256, g b.val f.val k * fbR k n.val) + epsR) : ℝ) : EReal) := by
  pointwise [logS]
  rw [coe_sum_mul _ _ (fun k => g b.val f.val k) (fun k => fbR k n.val) (fun k => hM _ _ _) (fun k => fbR_coe k n), eps_coe,
    ← EReal.coe_add, mel_last _ _ n.isLt]
  exact log_real (add_pos_of_nonneg_of_pos hp eps_pos)

/-- The cosine transform. -/
theorem dctS_apply (L : FVec Ideal S64x998x40 .f32) (g : ℕ → ℕ → ℕ → ℝ)
    (hL : ∀ (b : Fin 64) (f : Fin 998) (n : Fin 40), L (ix3 b f n) = ((g b.val f.val n.val : ℝ) : EReal))
    (b : Fin 64) (f : Fin 998) (q : Fin 40) :
    dctS L (ix3 b f q) = ((∑ n ∈ Finset.range 40, g b.val f.val n * dctR n q.val : ℝ) : EReal) := by
  pointwise [dctS]
  exact coe_sum_mul _ _ (fun n => g b.val f.val n) (fun n => dctR n q.val) (fun n => hL _ _ _) (fun n => dctR_coe n q)

/-- The central difference. -/
theorem deltaS_apply (D : FVec Ideal S64x998x40 .f32) (g : ℕ → ℕ → ℕ → ℝ)
    (hD : ∀ (b : Fin 64) (f : Fin 998) (q : Fin 40), D (ix3 b f q) = ((g b.val f.val q.val : ℝ) : EReal))
    (b : Fin 64) (f : Fin 998) (q : Fin 40) :
    deltaS D (ix3 b f q) = ((delta halfR (g b.val f.val) q.val : ℝ) : EReal) := by
  pointwise [deltaS]
  unfold delta
  by_cases h : 1 ≤ q.val ∧ q.val - 1 < 38
  · rw [dif_pos h, if_pos (by omega), hD, hD, half_coe, ← EReal.coe_sub, ← EReal.coe_mul]
    have e : 2 + (q.val - 1) = q.val + 1 := by omega
    simp only [e]
  · rw [dif_neg h, if_neg (by omega), EReal.coe_zero]

/-- Side by side, at an entry. -/
theorem tripleS_pieces (D0 D1 D2 : FVec Ideal S64x998x40 .f32) (b : Fin 64) (f : Fin 998) (j : Fin 39) :
    tripleS D0 D1 D2 (ix3 b f j) = if _ : j.val < 13 then D0 (ix3 b f ⟨j.val, by omega⟩)
      else if _ : j.val - 13 < 13 then D1 (ix3 b f ⟨j.val - 13, by omega⟩)
      else D2 (ix3 b f ⟨j.val - 13 - 13, by omega⟩) := by
  pointwise [tripleS]

/-- The triples. -/
theorem tripleS_apply (D0 D1 D2 : FVec Ideal S64x998x40 .f32) (g : ℕ → ℕ → ℕ → ℝ)
    (h0 : ∀ (b : Fin 64) (f : Fin 998) (q : Fin 40), D0 (ix3 b f q) = ((g b.val f.val q.val : ℝ) : EReal))
    (h1 : ∀ (b : Fin 64) (f : Fin 998) (q : Fin 40), D1 (ix3 b f q) = ((delta halfR (g b.val f.val) q.val : ℝ) : EReal))
    (h2 : ∀ (b : Fin 64) (f : Fin 998) (q : Fin 40), D2 (ix3 b f q) = ((delta halfR (delta halfR (g b.val f.val)) q.val : ℝ) : EReal))
    (b : Fin 64) (f : Fin 998) (j : Fin 39) :
    tripleS D0 D1 D2 (ix3 b f j) = ((triple halfR (g b.val f.val) j.val : ℝ) : EReal) := by
  rw [tripleS_pieces]
  unfold triple
  by_cases h : j.val < 13
  · rw [dif_pos h, if_pos h, h0]
  · rw [dif_neg h, if_neg h]
    by_cases h' : j.val - 13 < 13
    · rw [dif_pos h', if_pos (by omega), h1]
    · rw [dif_neg h', if_neg (by omega), h2]
      have e : j.val - 13 - 13 = j.val - 26 := by omega
      simp only [e]

/-- THE REFERENCE'S RESULT, on an argument whose entries are real numbers: the coefficients of every frame of every
    signal. -/
theorem reference_array (m : (ℓ : Loc nD τ sig) → Buf (Elt Ideal) ℓ) (c : Dev nD)
    (hX : Cert.Pre_finite.fn (F := Ideal) (m ((c.tc : Thread nD τ).loc main_arg0)) = fun _ => 1#1) :
    Cert.ReferenceIdeal.Value.res_main_v69 m c = cepstra (m ((c.tc : Thread nD τ).loc main_arg0)) := by
  rw [result_eq]
  generalize m ((c.tc : Thread nD τ).loc main_arg0) = X at hX
  have hx := sample_coe X hX
  have hz := frameS_apply (emphS X) (fun b => emph preR (sample X b)) (emphS_apply X (sample X) hx)
  have hu := waveS_apply _ (Host.cos angS) (fun b => emph preR (sample X b)) winR (fun n k => Real.cos (angR n k)) hz
    (fun n k => (congrArg Ideal.cos (angS_apply n k)).trans (Ideal.cos_coe _))
  have hs := waveS_apply _ (Host.sin angS) (fun b => emph preR (sample X b)) winR (fun n k => Real.sin (angR n k)) hz
    (fun n k => (congrArg Ideal.sin (angS_apply n k)).trans (Ideal.sin_coe _))
  have hm := magS_apply _ _
    (fun b f k => frameDot (emph preR (sample X b)) (fun n => winR n * Real.cos (angR n k)) f)
    (fun b f k => frameDot (emph preR (sample X b)) (fun n => winR n * Real.sin (angR n k)) f) hu hs
  have hl := fun (b : Fin 64) (f : Fin 998) (n : Fin 40) =>
    logS_apply _ (fun b f k => mag (emph preR (sample X b)) winR angR f k) hm b f n
      (mel_nonneg (emph preR (sample X b.val)) winR angR fbR fbR_nonneg f.val n.val)
  have hd := dctS_apply _ (fun b f n => logMel (emph preR (sample X b)) winR angR fbR epsR f n) hl
  have h1 := deltaS_apply _ (fun b f q => ∑ n ∈ Finset.range 40, logMel (emph preR (sample X b)) winR angR fbR epsR f n * dctR n q) hd
  have h2 := deltaS_apply _ (fun b f => delta halfR fun q => ∑ n ∈ Finset.range 40, logMel (emph preR (sample X b)) winR angR fbR epsR f n * dctR n q) h1
  have ht := tripleS_apply _ _ _
    (fun b f q => ∑ n ∈ Finset.range 40, logMel (emph preR (sample X b)) winR angR fbR epsR f n * dctR n q) hd h1 h2
  funext y
  rw [eq_ix3 y]
  exact ht _ _ _

end Cert.Proof.Ref

end
-- ==== Proof.lean ====
module

public import proofs.«01_k».proof.Defs
public import proofs.«01_k».proof.Proof.Gen.KernelIdeal.Value
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_finite
public import proofs.«01_k».proof.Proof.KernelArray
public import proofs.«01_k».proof.Proof.Reference
public import Idealize.ShloMosaic.Adequacy
public import Idealize.ShloMosaic.Init

@[expose] public section

noncomputable section

namespace Cert.Proof

open Idealize.ShloMosaic Idealize.SL.Sem Cert.Kernel

/-- The kernel as printed runs, leaves its argument and ends with every counter at zero. -/
theorem frame_kernel : Cert.quiescent_Kernel := fun m ρ _ => Cert.Kernel.Gen.frame m ρ

/-- So does its idealization, with the precondition and without. -/
theorem frame_ideal : Cert.quiescent_KernelIdeal := fun m ρ _ => Cert.KernelIdeal.Gen.frame m ρ
theorem frame_ideal_finite : Cert.quiescent_KernelIdeal_pre_finite := fun m ρ _ => Cert.KernelIdeal.Gen.frame m ρ

/-- So does the reference, which declares no counter. -/
theorem frame_reference : Cert.quiescent_ReferenceIdeal := fun m ρ _ =>
  (θ_run Cert.ReferenceIdeal.defs _ _).mono
    (fun r h => ⟨fun c => (h c).2, sem_eq_zero_of_no_sems (by decide) r.2⟩) (Cert.ReferenceIdeal.Value.run m ρ)
theorem frame_reference_finite : Cert.quiescent_ReferenceIdeal_pre_finite := fun m ρ _ => frame_reference m ρ trivial

/-- On an argument of real numbers the two programs end with the same coefficients. -/
theorem same_result : Cert.algebraic_KernelIdeal_ReferenceIdeal_pre_finite := fun m ρ m' ρ' hpre hagree =>
  ⟨fun c => cepstra (m ((c.tc : Thread Cert.KernelIdeal.nD Cert.KernelIdeal.τ).loc Cert.KernelIdeal.main_arg0)),
    (θ_run Cert.KernelIdeal.defs _ _).mono (fun _ h c => ⟨(h c).1.trans (kernel_array m c (hpre c)), (h c).2⟩)
      (Cert.KernelIdeal.Value.run_blocks m ρ),
    (θ_run Cert.ReferenceIdeal.defs _ _).mono
      (fun _ h c => ⟨(h c).1.trans ((Ref.reference_array m' c ((congrArg _ (hagree c)).trans (hpre c))).trans
        (congrArg cepstra (hagree c))), (h c).2⟩)
      (Cert.ReferenceIdeal.Value.run m' ρ')⟩

/-- THE CLAIM. -/
theorem claim : Cert.Claim :=
  ⟨Cert.Kernel.Gen.facts, Cert.KernelIdeal.Gen.facts, Cert.ReferenceIdeal.Gen.facts, Cert.Pre_finite.Gen.facts,
    frame_kernel, frame_ideal, frame_ideal_finite, frame_reference, frame_reference_finite, trivial, same_result⟩

end Cert.Proof

end
